-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "c1" .f32 0x3D122279#32 (((Real.sqrt (2 * Real.pi⁻¹)) * (8943 / 200000) : ℝ) : EReal)
  ∧ IdealRules.named_const.Statement Cert.KernelIdeal.κ "c0" .f32 0x3F4C422A#32 ((Real.sqrt (2 * Real.pi⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S17x2048x4608 : Shape := ⟨3, ![17, 2048, 4608]⟩
abbrev S_ : Shape := ⟨0, ![]⟩

class Facts : Prop where
  bcast_S_S17x2048x4608 : S_.BroadcastsInDim S17x2048x4608 (![] : Fin 0 → Fin S17x2048x4608.rank)

variable [Facts]

def fn {F : FTy → Type} [FloatOps F] (main_arg0 : FVec F S17x2048x4608 .bf16) : IVec S17x2048x4608 1 :=
  let main_v0 : FVec F S17x2048x4608 .bf16 := Host.absf main_arg0
  let main_cst : FVec F S_ .bf16 := constant S_ .bf16 0x7F7F#16
  let main_v1 : FVec F S17x2048x4608 .bf16 := broadcastInDim S17x2048x4608 ![] bcast_S_S17x2048x4608 main_cst
  let main_v2 : IVec S17x2048x4608 1 := cmpf .ole main_v0 main_v1
  main_v2
-- ==== Kernel.lean ====
abbrev S17x2048x4608 : Shape := ⟨3, ![17, 2048, 4608]⟩
abbrev S34816x4608 : Shape := ⟨2, ![34816, 4608]⟩
abbrev S34816x36 : Shape := ⟨2, ![34816, 36]⟩
abbrev S256x4608 : Shape := ⟨2, ![256, 4608]⟩
abbrev S256x36 : Shape := ⟨2, ![256, 36]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S17x2048x4608, .bf16⟩
  | .hbm, ⟨1, _⟩ => ⟨S34816x4608, .bf16⟩
  | .hbm, ⟨2, _⟩ => ⟨S34816x4608, .bf16⟩
  | .hbm, ⟨3, _⟩ => ⟨S34816x4608, .fp8e4m3⟩
  | .hbm, ⟨4, _⟩ => ⟨S34816x36, .f32⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x4608, .bf16⟩
  | .local _ .vmem, ⟨4, _⟩ => ⟨S256x4608, .fp8e4m3⟩
  | .local _ .vmem, ⟨5, _⟩ => ⟨S256x4608, .fp8e4m3⟩
  | .local _ .vmem, ⟨6, _⟩ => ⟨S256x36, .f32⟩
  | .local _ .vmem, ⟨7, _⟩ => ⟨S256x36, .f32⟩
  | _, _ => ⟨S17x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x36 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "c0" => some ((Real.sqrt (2 * Real.pi⁻¹) : ℝ) : EReal)
  | "c1" => some (((Real.sqrt (2 * Real.pi⁻¹)) * (8943 / 200000) : ℝ) : EReal)
  | _ => none
-- ==== ReferenceIdeal.lean ====
abbrev S17x2048x4608 : Shape := ⟨3, ![17, 2048, 4608]⟩
abbrev S34816x4608 : Shape := ⟨2, ![34816, 4608]⟩
abbrev S34816x36 : Shape := ⟨2, ![34816, 36]⟩
abbrev S34816x36x128 : Shape := ⟨3, ![34816, 36, 128]⟩
abbrev S34816x36x1 : Shape := ⟨3, ![34816, 36, 1]⟩

abbrev nBuf : Space → Nat
  | .hbm => 5
  | .vmem => 4
  | .smem => 0
  | _ => 0

abbrev bufTy : (tb : Table) → Fin (tcTables nBuf tb) → BufTy
  | .hbm, ⟨0, _⟩ => ⟨S17x2048x4608, .bf16⟩
  | .hbm, ⟨1, _⟩ => ⟨S34816x4608, .bf16⟩
  | .hbm, ⟨2, _⟩ => ⟨S34816x4608, .bf16⟩
  | .hbm, ⟨3, _⟩ => ⟨S34816x4608, .fp8e4m3⟩
  | .hbm, ⟨4, _⟩ => ⟨S34816x36, .f32⟩
  | .local _ .vmem, ⟨0, _⟩ => ⟨S34816x4608, .bf16⟩
  | .local _ .vmem, ⟨1, _⟩ => ⟨S34816x4608, .bf16⟩
  | .local _ .vmem, ⟨2, _⟩ => ⟨S34816x4608, .fp8e4m3⟩
  | .local _ .vmem, ⟨3, _⟩ => ⟨S34816x36, .f32⟩
  | _, _ => ⟨S17x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "cube" => some ((8943 / 200000 : ℝ) : EReal)
  | "ln2" => some ((Real.log 2 : ℝ) : EReal)
  | "root" => some ((Real.sqrt (2 * Real.pi⁻¹) : ℝ) : EReal)
  | _ => none

abbrev grid0 : Pipeline.Grid := .none

abbrev stage0_0 : Fin 1 → Memref sig .tc .vmem S34816x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S34816x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S34816x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S34816x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Scalar.lean ====
/- Hand-written, untrusted. THE NUMBERS of the quantiser, apart from any program: powers of two from exponent words, the
   exponent of a positive real counted against those powers, and GELU on the reals in the two spellings the programs use. -/
module

public import Idealize.ShloMosaic.PureOps.Ideal
public import Idealize.ShloMosaic.PureOps.Ideal.Laws
public import Idealize.ShloMosaic.Lib.IdealHost
public import Idealize.ShloMosaic.Lib.IndicatorCount
public import Mathlib.Analysis.SpecialFunctions.Pow.Real
public import Mathlib.Order.Interval.Finset.Fin

@[expose] public section

noncomputable section

namespace Cert.Quantise

open Idealize.ShloMosaic

/-! ## The constants the programs print -/

/-- The word `0x3F000000` is one half. -/
theorem half_val : Ideal.ofBits .f32 0x3F000000#32 = ((1 / 2 : ℝ) : EReal) := by
  simp [Ideal.ofBits, Ideal.ieee, -EReal.coe_mul]; norm_num

/-- The word `0x3F800000` is one. -/
theorem one_val : Ideal.ofBits .f32 0x3F800000#32 = ((1 : ℝ) : EReal) := by
  rw [Ideal.ofBits_one_f32]; rfl

/-- The word `0xFF800000` is minus infinity. -/
theorem bot_val : Ideal.ofBits .f32 0xFF800000#32 = ⊥ := by
  simp [Ideal.ofBits, Ideal.ieee]

/-- The word `0xC2FC0000` is -126. -/
theorem least_val : Ideal.ofBits .f32 0xC2FC0000#32 = ((-126 : ℝ) : EReal) := by
  simp [Ideal.ofBits, Ideal.ieee, -EReal.coe_mul]; norm_num

/-- The reciprocal of 448 as rounded to float32, a real number. -/
def rcp : ℝ := 9586981 * (2 : ℝ) ^ (-32 : ℤ)

/-- The word `0x3B124925` is `rcp`. -/
theorem rcp_val : Ideal.ofBits .f32 0x3B124925#32 = ((rcp : ℝ) : EReal) := by
  simp [Ideal.ofBits, Ideal.ieee, rcp, -EReal.coe_mul]

theorem rcp_pos : 0 < rcp := by unfold rcp; positivity

theorem rcp_le : rcp ≤ (2 : ℝ) ^ (-8 : ℤ) := by unfold rcp; norm_num

/-- The greatest finite bfloat16, `0x7F7F`, is below `2 ^ 128`. -/
theorem bf16_max_lt : Ideal.ofBits .bf16 0x7F7F#16 < (((2 : ℝ) ^ (128 : ℤ) : ℝ) : EReal) := by
  have h : (255 * 2 ^ 120 : ℝ) < 2 ^ 128 := by norm_num
  simp [Ideal.ofBits, Ideal.ieee, -EReal.coe_mul, -EReal.coe_pow]
  exact_mod_cast h

/-! ## Powers of two from their exponent words -/

/-- The fields of the word with `k` in its exponent: sign and significand are zero. -/
theorem fields (k : Fin 256) :
    ((BitVec.ofNat 32 k.val <<< 23).extractLsb' 23 8).toNat = k.val ∧ ((BitVec.ofNat 32 k.val <<< 23).extractLsb' 0 23).toNat = 0
      ∧ ((BitVec.ofNat 32 k.val <<< 23).extractLsb' 31 1 == 1#1) = false := by
  revert k; decide +kernel

/-- The significand of a power of two, with its hidden bit. -/
theorem significand : (1 : ℝ) * ((2 ^ 23 + 0 : ℕ) : ℝ) = (2 : ℝ) ^ (23 : ℤ) := by norm_num

/-- The word with `k` in its exponent field and nothing else is zero at `k = 0`, infinity at 255 and `2 ^ (k - 127)` between. -/
theorem exponent_word (k : Fin 256) : Ideal.ofBits .f32 (BitVec.ofNat 32 k.val <<< 23)
    = if k.val = 255 then ⊤ else if k.val = 0 then 0 else (((2 : ℝ) ^ ((k.val : ℤ) - 127) : ℝ) : EReal) := by
  obtain ⟨h1, h2, h3⟩ := fields k
  show Ideal.ieee 8 23 (BitVec.ofNat 32 k.val <<< 23) = _
  unfold Ideal.ieee
  simp only [h1, h2, h3]
  by_cases h : k.val = 255
  · simp [h]
  · by_cases h0 : k.val = 0
    · simp [h0]
    · simp only [h, h0, if_false, Bool.false_eq_true]
      rw [if_neg (by norm_num; exact h)]
      rw [significand, ← zpow_add₀ (by norm_num : (2 : ℝ) ≠ 0), show (23 : ℤ) + ((k.val : ℤ) - (2 ^ (8 - 1) - 1) - (23 : ℕ)) = (k.val : ℤ) - 127 by norm_num]

/-- `ofBits` at the word of a biased exponent `n + 127` in the normal range is `2 ^ n`. -/
theorem pow_word (n : ℤ) (h1 : -126 ≤ n) (h2 : n ≤ 127) (b : BitVec 32) (hb : b = BitVec.ofInt 32 (n + 127)) :
    Ideal.ofBits .f32 (b <<< 23) = (((2 : ℝ) ^ n : ℝ) : EReal) := by
  obtain ⟨k, hk⟩ : ∃ k : ℕ, n + 127 = k := ⟨(n + 127).toNat, by omega⟩
  have hb' : b = BitVec.ofNat 32 k := by rw [hb, hk]; exact BitVec.ofInt_natCast 32 k
  have := exponent_word ⟨k, by omega⟩
  rw [hb', this, if_neg (by dsimp only; omega), if_neg (by dsimp only; omega)]
  congr 2; dsimp only; omega

/-- Words of a difference of integers. -/
theorem ofInt_sub (x y : ℤ) : BitVec.ofInt 32 (x - y) = BitVec.ofInt 32 x - BitVec.ofInt 32 y := by
  rw [sub_eq_add_neg, BitVec.ofInt_add, BitVec.ofInt_neg, BitVec.sub_eq_add_neg]

/-! ## The exponent of a magnitude, counted and by logarithm -/

/-- How many of the 256 exponent words lie above `t`, as the kernel counts them: by comparisons, summed as words. -/
def count (t : EReal) : BitVec 32 :=
  (Finset.univ : Finset (Fin 256)).fold IntOp.addi 0#32
    fun k => (Ideal.cmp .olt t (Ideal.ofBits .f32 (BitVec.ofNat 32 k.val <<< 23))).setWidth 32

/-- The exponent the kernel gives a group whose greatest magnitude is `a`: 0 where `a` is 0, else from the count. -/
def expK (a : EReal) : BitVec 32 :=
  Scalar.select (Ideal.cmp .oeq a 0) 0#32 (255#32 - count (a * Ideal.ofBits .f32 0x3B124925#32) - 126#32)

/-- The exponent the reference gives it: 0 where `a` is 0, else `max (⌊log₂ (a · rcp)⌋ + 1) (-126)`. -/
def expR (a : EReal) : EReal :=
  Scalar.select (Ideal.cmp .oeq a 0) (Ideal.ofBits .f32 0x00000000#32)
    (max (Ideal.liftRound Int.floor (Ideal.div (Ideal.log (a * Ideal.ofBits .f32 0x3B124925#32)) ((Real.log 2 : ℝ) : EReal))
      + Ideal.ofBits .f32 0x3F800000#32) (Ideal.ofBits .f32 0xC2FC0000#32))

/-- The exponent of a positive real: the floor of its logarithm to base two. -/
def lg (t : ℝ) : ℤ := ⌊Real.log t / Real.log 2⌋

/-- A positive real is below `2 ^ j` exactly when its exponent is below `j`. -/
theorem lt_zpow_iff (t : ℝ) (ht : 0 < t) (j : ℤ) : t < (2 : ℝ) ^ j ↔ lg t < j := by
  unfold lg
  rw [Int.floor_lt, div_lt_iff₀ (Real.log_pos (by norm_num)), ← Real.log_zpow]
  exact (Real.log_lt_log_iff ht (by positivity)).symm

/-- A positive real is below exponent word `k` exactly when `k` exceeds its own exponent's word (and is not 0). -/
theorem below_word (t : ℝ) (ht : 0 < t) (hL : lg t ≤ 127) (k : Fin 256) :
    (t : EReal) < Ideal.ofBits .f32 (BitVec.ofNat 32 k.val <<< 23) ↔ max 1 (lg t + 128) ≤ (k.val : ℤ) := by
  rw [exponent_word]
  have hk := k.isLt
  split_ifs with h h0
  · simp only [EReal.coe_lt_top, true_iff]; omega
  · have : ¬ (t : EReal) < 0 := by rw [not_lt]; exact_mod_cast ht.le
    simp only [this, false_iff]; omega
  · rw [EReal.coe_lt_coe_iff]
    rw [lt_zpow_iff t ht]; omega

/-- The count is what the exponent leaves of the 256 words. -/
theorem count_eq (t : ℝ) (ht : 0 < t) (hL : lg t ≤ 127) :
    ∃ c : ℕ, count (t : EReal) = BitVec.ofNat 32 c ∧ (c : ℤ) = 256 - max 1 (lg t + 128) := by
  refine ⟨_, IndicatorCount.fold_addi_setWidth_eq_card _ _, ?_⟩
  obtain ⟨n, hn⟩ : ∃ n : ℕ, max 1 (lg t + 128) = n := ⟨(max 1 (lg t + 128)).toNat, by omega⟩
  have hset : ((Finset.univ : Finset (Fin 256)).filter fun k =>
      Ideal.cmp .olt (t : EReal) (Ideal.ofBits .f32 (BitVec.ofNat 32 k.val <<< 23)) = 1#1)
      = Finset.Ici (⟨n, by omega⟩ : Fin 256) := by
    ext k
    simp only [Finset.mem_filter, Finset.mem_univ, true_and, Finset.mem_Ici, Fin.le_def]
    have e : Ideal.cmp .olt (t : EReal) (Ideal.ofBits .f32 (BitVec.ofNat 32 k.val <<< 23)) = 1#1
        ↔ (t : EReal) < Ideal.ofBits .f32 (BitVec.ofNat 32 k.val <<< 23) := by
      simp only [Ideal.cmp]
      by_cases h : (t : EReal) < Ideal.ofBits .f32 (BitVec.ofNat 32 k.val <<< 23) <;> simp [h]
    rw [e, below_word t ht hL k, hn]; omega
  rw [hset, Fin.card_Ici]; dsimp only; omega

/-- Comparing a real with zero: the select takes its first branch exactly at 0. -/
theorem select_oeq_zero {α : Type} (a : ℝ) (x y : α) :
    Scalar.select (Ideal.cmp .oeq (a : EReal) 0) x y = if a = 0 then x else y := by
  simp only [Ideal.cmp, EReal.coe_eq_zero]
  by_cases h : a = 0 <;> simp [h, Scalar.select]

/-- ONE EXPONENT: of a magnitude below `2 ^ 128` the kernel's counted word and the reference's logarithm are the same
    integer, and it is in the range where both it and its negative have an exponent word. -/
theorem exponent (a : ℝ) (h0 : 0 ≤ a) (h1 : a < (2 : ℝ) ^ (128 : ℤ)) :
    ∃ n : ℤ, -126 ≤ n ∧ n ≤ 126 ∧ expK a = BitVec.ofInt 32 n ∧ expR a = ((n : ℝ) : EReal) := by
  unfold expK expR
  rw [select_oeq_zero, select_oeq_zero]
  by_cases ha : a = 0
  · refine ⟨0, by norm_num, by norm_num, ?_, ?_⟩
    · rw [if_pos ha]; rfl
    · rw [if_pos ha, Ideal.ofBits_zero_f32]; simp
  · have hpos : 0 < a := lt_of_le_of_ne h0 (Ne.symm ha)
    have ht : 0 < a * rcp := mul_pos hpos rcp_pos
    have hlt : a * rcp < (2 : ℝ) ^ (120 : ℤ) := by
      calc a * rcp ≤ a * (2 : ℝ) ^ (-8 : ℤ) := mul_le_mul_of_nonneg_left rcp_le h0
        _ < (2 : ℝ) ^ (128 : ℤ) * (2 : ℝ) ^ (-8 : ℤ) := mul_lt_mul_of_pos_right h1 (by positivity)
        _ = (2 : ℝ) ^ (120 : ℤ) := by norm_num
    have hL : lg (a * rcp) < 120 := (lt_zpow_iff _ ht _).1 hlt
    obtain ⟨c, hc, hc'⟩ := count_eq (a * rcp) ht (by omega)
    refine ⟨max (lg (a * rcp) + 1) (-126), by omega, by omega, ?_, ?_⟩
    · rw [if_neg ha, rcp_val, ← EReal.coe_mul, hc]
      have e : max (lg (a * rcp) + 1) (-126) = 255 - (c : ℤ) - 126 := by omega
      rw [e, show (255#32 : BitVec 32) = BitVec.ofInt 32 255 from rfl, show (126#32 : BitVec 32) = BitVec.ofInt 32 126 from rfl,
        show BitVec.ofNat 32 c = BitVec.ofInt 32 (c : ℤ) from (BitVec.ofInt_natCast 32 c).symm]
      rw [ofInt_sub, ofInt_sub]
    · rw [if_neg ha, rcp_val, ← EReal.coe_mul, one_val, least_val]
      have hlog : Ideal.log ((a * rcp : ℝ) : EReal) = ((Real.log (a * rcp) : ℝ) : EReal) := by
        show (if a * rcp ≤ 0 then ⊥ else ((Real.log (a * rcp) : ℝ) : EReal)) = _
        rw [if_neg (not_le.2 ht)]
      rw [hlog, Ideal.div_coe (by positivity : Real.log 2 ≠ 0), ← EReal.coe_mul]
      have hfl : Ideal.liftRound Int.floor ((Real.log (a * rcp) * (1 / Real.log 2) : ℝ) : EReal)
          = ((lg (a * rcp) : ℝ) : EReal) := by
        show ((⌊Real.log (a * rcp) * (1 / Real.log 2)⌋ : ℝ) : EReal) = _
        rw [mul_one_div]; rfl
      rw [hfl, ← EReal.coe_add, ← EReal.coe_strictMono.monotone.map_max]
      push_cast; rfl

/-! ## The scale and its inverse -/

/-- The kernel's scale, from the exponent word. -/
def scaleK (e : BitVec 32) : EReal := Ideal.ofBits .f32 ((e + 127#32) <<< 23)
/-- The kernel's inverse scale. -/
def invK (e : BitVec 32) : EReal := Ideal.ofBits .f32 ((127#32 - e) <<< 23)

/-- `exp2` of an integer is the power. -/
theorem exp2_int (n : ℤ) : Ideal.exp2 ((n : ℝ) : EReal) = (((2 : ℝ) ^ n : ℝ) : EReal) := by
  show ((Real.rpow 2 (n : ℝ) : ℝ) : EReal) = _
  rw [show Real.rpow 2 (n : ℝ) = (2 : ℝ) ^ n from Real.rpow_intCast 2 n]

/-- THE SCALES AGREE: the words the kernel builds are the powers of two the reference raises. -/
theorem scales (a : ℝ) (h0 : 0 ≤ a) (h1 : a < (2 : ℝ) ^ (128 : ℤ)) :
    scaleK (expK a) = Ideal.exp2 (expR a)
      ∧ invK (expK a) = Ideal.exp2 (Ideal.ofBits .f32 0x00000000#32 - expR a) := by
  obtain ⟨n, l, u, hK, hR⟩ := exponent a h0 h1
  unfold scaleK invK
  rw [hK, hR]
  constructor
  · rw [exp2_int, pow_word n l (by omega) _ ?_]
    rw [show (127#32 : BitVec 32) = BitVec.ofInt 32 127 from rfl, ← BitVec.ofInt_add]
  · rw [Ideal.ofBits_zero_f32, zero_sub, ← EReal.coe_neg, ← Int.cast_neg, exp2_int, pow_word (-n) (by omega) (by omega) _ ?_]
    rw [show (127#32 : BitVec 32) = BitVec.ofInt 32 127 from rfl, ← ofInt_sub]
    congr 1; ring

/-! ## GELU -/

/-- `√(2/π)`. -/
abbrev root : ℝ := Real.sqrt (2 * Real.pi⁻¹)
/-- `0.044715`. -/
abbrev cube : ℝ := 8943 / 200000

/-- GELU by tanh, as the kernel spells it. -/
def geluK (x : EReal) : EReal :=
  Ideal.ofBits .f32 0x3F000000#32 * x * (Ideal.ofBits .f32 0x3F800000#32
    + Ideal.tanh (x * (((root : ℝ) : EReal) + ((root * cube : ℝ) : EReal) * (x * x))))

/-- GELU by tanh, as the reference spells it. -/
def geluR (x : EReal) : EReal :=
  x * (Ideal.ofBits .f32 0x3F000000#32 * (Ideal.ofBits .f32 0x3F800000#32
    + Ideal.tanh (((root : ℝ) : EReal) * (x + ((cube : ℝ) : EReal) * (x * (x * x))))))

/-- The real function both compute. -/
def gelu (x : ℝ) : ℝ := x * (1 / 2 * (1 + Real.tanh (root * (x + cube * (x * (x * x))))))

theorem geluR_coe (x : ℝ) : geluR (x : EReal) = ((gelu x : ℝ) : EReal) := by
  unfold geluR gelu
  rw [half_val, one_val, ← EReal.coe_mul, ← EReal.coe_mul, ← EReal.coe_mul, ← EReal.coe_add, ← EReal.coe_mul]
  show (x : EReal) * (((1 / 2 : ℝ) : EReal) * (((1 : ℝ) : EReal) + ((Real.tanh _ : ℝ) : EReal))) = _
  rw [← EReal.coe_add, ← EReal.coe_mul, ← EReal.coe_mul]

theorem geluK_coe (x : ℝ) : geluK (x : EReal) = ((gelu x : ℝ) : EReal) := by
  unfold geluK gelu
  rw [half_val, one_val, ← EReal.coe_mul, ← EReal.coe_mul, ← EReal.coe_mul, ← EReal.coe_add, ← EReal.coe_mul]
  show ((1 / 2 * x : ℝ) : EReal) * (((1 : ℝ) : EReal) + ((Real.tanh _ : ℝ) : EReal)) = _
  rw [← EReal.coe_add, ← EReal.coe_mul]
  rw [show x * (root + root * cube * (x * x)) = root * (x + cube * (x * (x * x))) by ring]
  congr 1; ring

/-- GELU does not increase a magnitude. -/
theorem abs_gelu_le (x : ℝ) : |gelu x| ≤ |x| := by
  unfold gelu
  rw [abs_mul]
  refine mul_le_of_le_one_right (abs_nonneg x) (abs_le.2 ⟨?_, ?_⟩)
  · have := Real.neg_one_lt_tanh (root * (x + cube * (x * (x * x)))); linarith
  · have := Real.tanh_lt_one (root * (x + cube * (x * (x * x)))); linarith

end Cert.Quantise

end
-- ==== Proof.Group.lean ====
/- Hand-written, untrusted. ONE GROUP of the kernel: the values its first group computes from a 256×128 slice, read at an
   index. The other 35 groups compute the same functions of their own slices (Pieces.lean). -/
module

public import proofs.«01_k».proof.Proof.Scalar
public import proofs.«01_k».proof.Proof.Gen.KernelIdeal.Skeleton
public import Idealize.ShloMosaic.Lib.Pointwise

@[expose] public section

noncomputable section

namespace Cert.Quantise

open Idealize.ShloMosaic

/-- The greatest magnitude of a group, from minus infinity. -/
def amax (v : Fin 128 → EReal) : EReal :=
  (Finset.univ : Finset (Fin 128)).fold max ⊥ fun k => max (v k) (-(v k))

/-- A code: the value times the inverse scale, clipped to ±448. -/
def code (v inv : EReal) : EReal :=
  min (Ideal.ofBits .f32 0x43E00000#32) (max (Ideal.ofBits .f32 0xC3E00000#32) (v * inv))

namespace Group

open Cert.KernelIdeal Cert.KernelIdeal.Gen

variable (xs : Vec Ideal S256x128 .bf16)

/-- Row `r` of the slice after GELU. -/
def row (r : Fin 256) (k : Fin 128) : EReal := geluK (xs (ix2 r k))

/-- The constant named `c0` is `√(2/π)`. -/
theorem c0_val : (Named.named κ "c0" 0x3F4C422A#32 : Ideal .f32) = ((root : ℝ) : EReal) := rfl
/-- The constant named `c1` is `√(2/π) · 0.044715`. -/
theorem c1_val : (Named.named κ "c1" 0x3D122279#32 : Ideal .f32) = ((root * cube : ℝ) : EReal) := rfl

/-- The GELU payload at an index. -/
theorem pay1_apply (r : Fin 256) (k : Fin 128) : k0_pay1 xs (ix2 r k) = row xs r k := by
  pointwise [k0_pay1]
  rw [c0_val, c1_val, row, geluK, Ideal.ofBits_one_f32]

/-- The greatest magnitude of row `r`, as the reduction folds it. -/
theorem max_fold (r : Fin 256) : (Finset.univ : Finset (Fin 128)).fold max (Ideal.ofBits .f32 0xFF800000#32)
    (fun k => FloatOps.absf (k0_pay1 xs (ix2 r k))) = amax (row xs r) := by
  simp only [pay1_apply, bot_val, Ideal.absf_def]; rfl

/-- A shift by the width of the significand. -/
theorem shl23 (x : BitVec 32) : IntOp.shli .vector x 23#32 = x <<< 23 := by
  simp [IntOp.shli]

/-- The exponent payload at a row. -/
theorem pay2_apply (r : Fin 256) : k0_pay2 xs (ix2 r (0 : Fin 1)) = expK (amax (row xs r)) := by
  pointwise [k0_pay2]
  rw [max_fold]
  simp only [shl23]
  unfold expK
  simp only [Ideal.cmp, Scalar.select]
  by_cases h : amax (row xs r) = 0
  · simp [h]
  · simp only [h, if_false, decide_false]; rfl

/-- The scale payload at a row. -/
theorem pay3_apply (r : Fin 256) : k0_pay3 xs (ix2 r (0 : Fin 1)) = scaleK (expK (amax (row xs r))) := by
  pointwise [k0_pay3]
  rw [pay2_apply, shl23]; rfl

/-- The group's codes: what `out0_2`'s pieces hold. -/
def codes {F : FTy → Type} [FloatOps F] [Named F] (xs : Vec F S256x128 .bf16) : FVec F S256x128 .fp8e4m3 :=
  k0_pay4 (k0_pay1 xs) (k0_pay2 xs) 127#32

/-- The group's dequantised values: what `out0_1`'s pieces hold. -/
def xhat {F : FTy → Type} [FloatOps F] [Named F] (xs : Vec F S256x128 .bf16) : FVec F S256x128 .bf16 :=
  k0_pay5 (k0_pay1 xs) (k0_pay2 xs) (k0_pay3 xs) 127#32

/-- The codes at an index. -/
theorem codes_apply (r : Fin 256) (k : Fin 128) :
    codes xs (ix2 r k) = code (row xs r k) (invK (expK (amax (row xs r)))) := by
  pointwise [codes, k0_pay4]
  rw [pay1_apply, pay2_apply, shl23]; rfl

/-- The dequantised values at an index. -/
theorem xhat_apply (r : Fin 256) (k : Fin 128) :
    xhat xs (ix2 r k) = code (row xs r k) (invK (expK (amax (row xs r)))) * scaleK (expK (amax (row xs r))) := by
  pointwise [xhat, k0_pay5, k0_pay4]
  rw [pay1_apply, pay2_apply, pay3_apply, shl23]; rfl

end Group

end Cert.Quantise

end
-- ==== Proof.Pieces.lean ====
/- Hand-written, untrusted. THE BLOCK the kernel's body leaves in each output buffer, read at an index: the 36 stores of a
   window put down the 36 groups of ONE function of the input block. -/
module

public import proofs.«01_k».proof.Proof.Group
public import proofs.«01_k».proof.Proof.Gen.KernelIdeal.Frame
public import Idealize.ShloMosaic.Lib.Pipeline.Value

@[expose] public section

noncomputable section

namespace Cert.Quantise.Pieces

open Idealize.ShloMosaic Idealize.SL.Sem Cert.KernelIdeal Cert.KernelIdeal.Gen Cert.Quantise Cert.Quantise.Group

section

variable {n : Nat} (x0 : (⟨2, ![n, 4608]⟩ : Shape).Idx → EReal)

/-- Group `g` of row `r` of `n` rows, after GELU. -/
def grp (r : Fin n) (g : Fin 36) (k : Fin 128) : EReal :=
  geluK (x0 (ix2 r (⟨g.val * 128 + k.val, by have := g.isLt; have := k.isLt; omega⟩ : Fin 4608)))

/-- The group of a column. -/
def gOf (c : Fin 4608) : Fin 36 := ⟨c.val / 128, by have := c.isLt; omega⟩
/-- The lane of a column in its group. -/
def kOf (c : Fin 4608) : Fin 128 := ⟨c.val % 128, Nat.mod_lt _ (by norm_num)⟩

/-- The exponent of group `g` of row `r`. -/
def ex (r : Fin n) (g : Fin 36) : BitVec 32 := expK (amax (grp x0 r g))

/-- The code at a row and a column. -/
def codeAt (r : Fin n) (c : Fin 4608) : EReal := code (grp x0 r (gOf c) (kOf c)) (invK (ex x0 r (gOf c)))

/-- The dequantised values of `n` rows, as a function of the index. -/
def E1 (y : (⟨2, ![n, 4608]⟩ : Shape).Idx) : EReal := codeAt x0 (y 0) (y 1) * scaleK (ex x0 (y 0) (gOf (y 1)))
/-- The codes. -/
def E2 (y : (⟨2, ![n, 4608]⟩ : Shape).Idx) : EReal := codeAt x0 (y 0) (y 1)
/-- The scales. -/
def E3 (y : (⟨2, ![n, 36]⟩ : Shape).Idx) : EReal := scaleK (ex x0 (y 0) (y 1))

end

/-- Two arrays that agree on a row agree on its groups. -/
theorem grp_congr {n n' : Nat} (x : (⟨2, ![n, 4608]⟩ : Shape).Idx → EReal) (x' : (⟨2, ![n', 4608]⟩ : Shape).Idx → EReal)
    (r : Fin n) (r' : Fin n') (h : ∀ c : Fin 4608, x (ix2 r c) = x' (ix2 r' c)) : grp x r = grp x' r' := by
  funext g k; unfold grp; rw [h]

variable (x0 : Vec Ideal S256x4608 .bf16)

/-- A row of the slice at column offset `o`, a multiple of 128, is a group of the block. -/
theorem row_ld (o : Nat) (inb : ∀ a, (![0, o] : Fin 2 → Nat) a + S256x128.size a ≤ S256x4608.size a) (g : Fin 36) (ho : o = g.val * 128)
    (r : Fin 256) : row (View.ld x0 (Rect.unit (s := S256x4608) ![0, o] S256x128.size inb)) r = grp x0 r g := by
  funext k
  unfold row grp
  refine congrArg (fun i => geluK (x0 i)) (funext fun a => Fin.ext ?_)
  match a with
  | ⟨0, _⟩ => show 0 + 1 * r.val = r.val; omega
  | ⟨1, _⟩ => show o + 1 * k.val = g.val * 128 + k.val; omega

/-- The column `g · 128 + k` is lane `k` of group `g`. -/
theorem gOf_add (g : Fin 36) (k : Fin 128) (c : Fin 4608) (h : c.val = g.val * 128 + k.val) : gOf c = g ∧ kOf c = k := by
  have := k.isLt
  refine ⟨Fin.ext ?_, Fin.ext ?_⟩
  · show c.val / 128 = g.val; omega
  · show c.val % 128 = k.val; omega

/-- The store of codes at column offset `o` puts down `E2` there. -/
theorem piece2 (o : Nat) (inb : ∀ a, (![0, o] : Fin 2 → Nat) a + S256x128.size a ≤ S256x4608.size a) (g : Fin 36) (ho : o = g.val * 128)
    (x : S256x128.Idx) : codes (View.ld x0 (Rect.unit (s := S256x4608) ![0, o] S256x128.size inb)) x
      = E2 x0 ((Rect.unit (s := S256x4608) ![0, o] S256x128.size inb).emb x) := by
  obtain ⟨r, k, rfl⟩ : ∃ (r : Fin 256) (k : Fin 128), x = ix2 r k := ⟨x 0, x 1, eq_ix2 x⟩
  rw [codes_apply, row_ld x0 o inb g ho]
  have h0 : ((Rect.unit (s := S256x4608) ![0, o] S256x128.size inb).emb (ix2 r k)) 0 = r :=
    Fin.ext (show 0 + 1 * r.val = r.val by omega)
  obtain ⟨hg, hk⟩ := gOf_add g k (((Rect.unit (s := S256x4608) ![0, o] S256x128.size inb).emb (ix2 r k)) 1)
    (show o + 1 * k.val = g.val * 128 + k.val by omega)
  unfold E2 codeAt ex
  rw [hg, hk, h0]

/-- The store of dequantised values at column offset `o` puts down `E1` there. -/
theorem piece1 (o : Nat) (inb : ∀ a, (![0, o] : Fin 2 → Nat) a + S256x128.size a ≤ S256x4608.size a) (g : Fin 36) (ho : o = g.val * 128)
    (x : S256x128.Idx) : xhat (View.ld x0 (Rect.unit (s := S256x4608) ![0, o] S256x128.size inb)) x
      = E1 x0 ((Rect.unit (s := S256x4608) ![0, o] S256x128.size inb).emb x) := by
  obtain ⟨r, k, rfl⟩ : ∃ (r : Fin 256) (k : Fin 128), x = ix2 r k := ⟨x 0, x 1, eq_ix2 x⟩
  rw [xhat_apply, row_ld x0 o inb g ho]
  have h0 : ((Rect.unit (s := S256x4608) ![0, o] S256x128.size inb).emb (ix2 r k)) 0 = r :=
    Fin.ext (show 0 + 1 * r.val = r.val by omega)
  obtain ⟨hg, hk⟩ := gOf_add g k (((Rect.unit (s := S256x4608) ![0, o] S256x128.size inb).emb (ix2 r k)) 1)
    (show o + 1 * k.val = g.val * 128 + k.val by omega)
  unfold E1 codeAt ex
  rw [hg, hk, h0]

/-- The store of scales at column `g` puts down `E3` there. -/
theorem piece3 (q : Nat) (g : Fin 36) (o : Nat) (inb : ∀ a, (![0, o] : Fin 2 → Nat) a + S256x128.size a ≤ S256x4608.size a)
    (inb' : ∀ a, (![0, q] : Fin 2 → Nat) a + S256x1.size a ≤ S256x36.size a) (ho : o = g.val * 128) (hq : q = g.val)
    (x : S256x1.Idx) : k0_pay3 (View.ld x0 (Rect.unit (s := S256x4608) ![0, o] S256x128.size inb)) x
      = E3 x0 ((Rect.unit (s := S256x36) ![0, q] S256x1.size inb').emb x) := by
  obtain ⟨r, k, rfl⟩ : ∃ (r : Fin 256) (k : Fin 1), x = ix2 r k := ⟨x 0, x 1, eq_ix2 x⟩
  obtain rfl : k = 0 := Subsingleton.elim _ _
  rw [pay3_apply, row_ld x0 o inb g ho]
  have h0 : ((Rect.unit (s := S256x36) ![0, q] S256x1.size inb').emb (ix2 r (0 : Fin 1))) 0 = r :=
    Fin.ext (show 0 + 1 * r.val = r.val by omega)
  have h1 : ((Rect.unit (s := S256x36) ![0, q] S256x1.size inb').emb (ix2 r (0 : Fin 1))) 1 = g :=
    Fin.ext (show q + 1 * 0 = g.val by omega)
  unfold E3 ex
  rw [h0, h1]

/-- What the body leaves in output window 1 is `E1` of the input block. -/
theorem out1_apply (y : S256x4608.Idx) : out0_1 x0 y = E1 x0 y := by
  unfold out0_1
  refine View.canon_apply_of_pieces (Val := Elt Ideal) (e := .bf16) (E1 x0) _ ?_ y (cover0_1 _ _ _ _ _ _ _ _ _ _ _ _ _ _ _ _ _ _ _ _ _ _ _ _ _ _ _ _ _ _ _ _ _ _ _ _ y)
  simp only [List.forall_mem_cons, List.not_mem_nil, false_imp_iff, implies_true, and_true]
  exact ⟨piece1 x0 4480 _ 35 rfl, piece1 x0 4352 _ 34 rfl, piece1 x0 4224 _ 33 rfl, piece1 x0 4096 _ 32 rfl,
    piece1 x0 3968 _ 31 rfl, piece1 x0 3840 _ 30 rfl, piece1 x0 3712 _ 29 rfl, piece1 x0 3584 _ 28 rfl,
    piece1 x0 3456 _ 27 rfl, piece1 x0 3328 _ 26 rfl, piece1 x0 3200 _ 25 rfl, piece1 x0 3072 _ 24 rfl,
    piece1 x0 2944 _ 23 rfl, piece1 x0 2816 _ 22 rfl, piece1 x0 2688 _ 21 rfl, piece1 x0 2560 _ 20 rfl,
    piece1 x0 2432 _ 19 rfl, piece1 x0 2304 _ 18 rfl, piece1 x0 2176 _ 17 rfl, piece1 x0 2048 _ 16 rfl,
    piece1 x0 1920 _ 15 rfl, piece1 x0 1792 _ 14 rfl, piece1 x0 1664 _ 13 rfl, piece1 x0 1536 _ 12 rfl,
    piece1 x0 1408 _ 11 rfl, piece1 x0 1280 _ 10 rfl, piece1 x0 1152 _ 9 rfl, piece1 x0 1024 _ 8 rfl,
    piece1 x0 896 _ 7 rfl, piece1 x0 768 _ 6 rfl, piece1 x0 640 _ 5 rfl, piece1 x0 512 _ 4 rfl,
    piece1 x0 384 _ 3 rfl, piece1 x0 256 _ 2 rfl, piece1 x0 128 _ 1 rfl, piece1 x0 0 _ 0 rfl⟩

/-- What the body leaves in output window 2 is `E2` of the input block. -/
theorem out2_apply (y : S256x4608.Idx) : out0_2 x0 y = E2 x0 y := by
  unfold out0_2
  refine View.canon_apply_of_pieces (Val := Elt Ideal) (e := .fp8e4m3) (E2 x0) _ ?_ y (cover0_2 _ _ _ _ _ _ _ _ _ _ _ _ _ _ _ _ _ _ _ _ _ _ _ _ _ _ _ _ _ _ _ _ _ _ _ _ y)
  simp only [List.forall_mem_cons, List.not_mem_nil, false_imp_iff, implies_true, and_true]
  exact ⟨piece2 x0 4480 _ 35 rfl, piece2 x0 4352 _ 34 rfl, piece2 x0 4224 _ 33 rfl, piece2 x0 4096 _ 32 rfl,
    piece2 x0 3968 _ 31 rfl, piece2 x0 3840 _ 30 rfl, piece2 x0 3712 _ 29 rfl, piece2 x0 3584 _ 28 rfl,
    piece2 x0 3456 _ 27 rfl, piece2 x0 3328 _ 26 rfl, piece2 x0 3200 _ 25 rfl, piece2 x0 3072 _ 24 rfl,
    piece2 x0 2944 _ 23 rfl, piece2 x0 2816 _ 22 rfl, piece2 x0 2688 _ 21 rfl, piece2 x0 2560 _ 20 rfl,
    piece2 x0 2432 _ 19 rfl, piece2 x0 2304 _ 18 rfl, piece2 x0 2176 _ 17 rfl, piece2 x0 2048 _ 16 rfl,
    piece2 x0 1920 _ 15 rfl, piece2 x0 1792 _ 14 rfl, piece2 x0 1664 _ 13 rfl, piece2 x0 1536 _ 12 rfl,
    piece2 x0 1408 _ 11 rfl, piece2 x0 1280 _ 10 rfl, piece2 x0 1152 _ 9 rfl, piece2 x0 1024 _ 8 rfl,
    piece2 x0 896 _ 7 rfl, piece2 x0 768 _ 6 rfl, piece2 x0 640 _ 5 rfl, piece2 x0 512 _ 4 rfl,
    piece2 x0 384 _ 3 rfl, piece2 x0 256 _ 2 rfl, piece2 x0 128 _ 1 rfl, piece2 x0 0 _ 0 rfl⟩

/-- What the body leaves in output window 3 is `E3` of the input block. -/
theorem out3_apply (y : S256x36.Idx) : out0_3 x0 y = E3 x0 y := by
  unfold out0_3
  refine View.canon_apply_of_pieces (Val := Elt Ideal) (e := .f32) (E3 x0) _ ?_ y (cover0_3 _ _ _ _ _ _ _ _ _ _ _ _ _ _ _ _ _ _ _ _ _ _ _ _ _ _ _ _ _ _ _ _ _ _ _ _ y)
  simp only [List.forall_mem_cons, List.not_mem_nil, false_imp_iff, implies_true, and_true]
  exact ⟨piece3 x0 35 35 4480 _ _ rfl rfl, piece3 x0 34 34 4352 _ _ rfl rfl, piece3 x0 33 33 4224 _ _ rfl rfl, piece3 x0 32 32 4096 _ _ rfl rfl,
    piece3 x0 31 31 3968 _ _ rfl rfl, piece3 x0 30 30 3840 _ _ rfl rfl, piece3 x0 29 29 3712 _ _ rfl rfl, piece3 x0 28 28 3584 _ _ rfl rfl,
    piece3 x0 27 27 3456 _ _ rfl rfl, piece3 x0 26 26 3328 _ _ rfl rfl, piece3 x0 25 25 3200 _ _ rfl rfl, piece3 x0 24 24 3072 _ _ rfl rfl,
    piece3 x0 23 23 2944 _ _ rfl rfl, piece3 x0 22 22 2816 _ _ rfl rfl, piece3 x0 21 21 2688 _ _ rfl rfl, piece3 x0 20 20 2560 _ _ rfl rfl,
    piece3 x0 19 19 2432 _ _ rfl rfl, piece3 x0 18 18 2304 _ _ rfl rfl, piece3 x0 17 17 2176 _ _ rfl rfl, piece3 x0 16 16 2048 _ _ rfl rfl,
    piece3 x0 15 15 1920 _ _ rfl rfl, piece3 x0 14 14 1792 _ _ rfl rfl, piece3 x0 13 13 1664 _ _ rfl rfl, piece3 x0 12 12 1536 _ _ rfl rfl,
    piece3 x0 11 11 1408 _ _ rfl rfl, piece3 x0 10 10 1280 _ _ rfl rfl, piece3 x0 9 9 1152 _ _ rfl rfl, piece3 x0 8 8 1024 _ _ rfl rfl,
    piece3 x0 7 7 896 _ _ rfl rfl, piece3 x0 6 6 768 _ _ rfl rfl, piece3 x0 5 5 640 _ _ rfl rfl, piece3 x0 4 4 512 _ _ rfl rfl,
    piece3 x0 3 3 384 _ _ rfl rfl, piece3 x0 2 2 256 _ _ rfl rfl, piece3 x0 1 1 128 _ _ rfl rfl, piece3 x0 0 0 0 _ _ rfl rfl⟩

end Cert.Quantise.Pieces

end
-- ==== Proof.KernelRun.lean ====
/- Hand-written, untrusted. THE KERNEL'S ARRAYS after its run: the 136 row blocks tile each result array, so each ends at one
   function of the reshaped argument. -/
module

public import proofs.«01_k».proof.Proof.Pieces
public import proofs.«01_k».proof.Proof.Gen.KernelIdeal.Value
public import Idealize.ShloMosaic.Lib.Claim
public import Idealize.ShloMosaic.Lib.Pipeline.ValueKit

@[expose] public section

noncomputable section

namespace Cert.Quantise.KernelRun

open Idealize.ShloMosaic Idealize.ShloMosaic.TcCoe Idealize.SL.Sem Cert.KernelIdeal Cert.KernelIdeal.Gen Cert.Quantise
open Cert.Quantise.Pieces
open Idealize.ShloMosaic.Pipeline (Dat)

variable (m : (ℓ : Loc nD τ sig) → Buf (Elt Ideal) ℓ) (ρ : Dev nD → PrngReg)

/-- The argument with its leading axes merged: the array the kernel's blocks come from. -/
def X (a : Vec Ideal S17x2048x4608 .bf16) : Vec Ideal S34816x4608 .bf16 := shapeCast S34816x4608 a shapeCasts_S17x2048x4608_S34816x4608

/-- The region finds the reshaped argument. -/
theorem V_v0 (c : Dev nD) : V m c main_v0 = X (m ((c : Thread nD τ).loc main_arg0)) := by
  entry_read
  rfl

/-- Row block `t` starts at row `256 t`, in every window. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Row `r` of block `t` is row `R` of the array when `R = 256 t + r`, so their groups agree. -/
theorem grp_blk (c : Dev nD) (t : Fin cfg0.N) (r : Fin 256) (R : Fin 34816) (h : R.val = t.val * 256 + r.val) :
    grp (iblk m c 0 t) r = grp (X (m ((c : Thread nD τ).loc main_arg0))) R := by
  refine grp_congr _ _ r R fun k => ?_
  have e := (idx t).1
  rw [← V_v0]
  blk_ext [iblk, e.1, e.2]

/-- The dequantised array after the run. -/
theorem final1 (c : Dev nD) : (dats m 0 c).arrAt 1 cfg0.N = E1 (X (m ((c : Thread nD τ).loc main_arg0))) := by
  refine (dats m 0 c).arrAt_eq_of_covers 1 _ (by decide +kernel) fun t hf y => ?_
  have e := (idx t).2.1
  blk_simp
  rw [after0_1, out1_apply]
  have h0 : (((win0_1.blk t).view.emb y) 0 : ℕ) = t.val * 256 + (y 0).val := by blk_simp [e.1]
  have h1 : ((win0_1.blk t).view.emb y) 1 = y 1 := Fin.ext (by blk_simp [e.2]; try omega)
  unfold E1 codeAt ex
  rw [grp_blk m c t (y 0) _ h0, h1]

/-- The codes after the run. -/
theorem final2 (c : Dev nD) : (dats m 0 c).arrAt 2 cfg0.N = E2 (X (m ((c : Thread nD τ).loc main_arg0))) := by
  refine (dats m 0 c).arrAt_eq_of_covers 2 _ (by decide +kernel) fun t hf y => ?_
  have e := (idx t).2.2.1
  blk_simp
  rw [after0_2, out2_apply]
  have h0 : (((win0_2.blk t).view.emb y) 0 : ℕ) = t.val * 256 + (y 0).val := by blk_simp [e.1]
  have h1 : ((win0_2.blk t).view.emb y) 1 = y 1 := Fin.ext (by blk_simp [e.2]; try omega)
  unfold E2 codeAt ex
  rw [grp_blk m c t (y 0) _ h0, h1]

/-- The scales after the run. -/
theorem final3 (c : Dev nD) : (dats m 0 c).arrAt 3 cfg0.N = E3 (X (m ((c : Thread nD τ).loc main_arg0))) := by
  refine (dats m 0 c).arrAt_eq_of_covers 3 _ (by decide +kernel) fun t hf y => ?_
  have e := (idx t).2.2.2
  blk_simp
  rw [after0_3, out3_apply]
  have h0 : (((win0_3.blk t).view.emb y) 0 : ℕ) = t.val * 256 + (y 0).val := by blk_simp [e.1]
  have h1 : ((win0_3.blk t).view.emb y) 1 = y 1 := Fin.ext (by blk_simp [e.2]; try omega)
  unfold E3 ex
  rw [grp_blk m c t (y 0) _ h0, h1]

end Cert.Quantise.KernelRun

end
-- ==== Proof.Reference.lean ====
/- Hand-written, untrusted. THE REFERENCE'S BODY read at an index: each of its three whole arrays as one function of the
   input array. -/
module

public import proofs.«01_k».proof.Proof.Pieces
public import proofs.«01_k».proof.Proof.Gen.ReferenceIdeal.Frame
public import Idealize.ShloMosaic.Lib.Pointwise

@[expose] public section

noncomputable section

namespace Cert.Quantise.Reference

open Idealize.ShloMosaic Cert.ReferenceIdeal Cert.ReferenceIdeal.Gen Cert.Quantise
open Cert.Quantise.Pieces (gOf kOf)

variable (x : Vec Ideal S34816x4608 .bf16)

/-- Group `g` of row `r` after GELU, as the reference spells it. -/
def grp (r : Fin 34816) (g : Fin 36) (k : Fin 128) : EReal :=
  geluR (x (ix2 r (⟨g.val * 128 + k.val, by have := g.isLt; have := k.isLt; omega⟩ : Fin 4608)))

/-- The exponent of group `g` of row `r`, as the reference spells it. -/
def ex (r : Fin 34816) (g : Fin 36) : EReal := expR (amax (grp x r g))

/-- The code at a row and a column. -/
def codeAt (r : Fin 34816) (g : Fin 36) (k : Fin 128) : EReal :=
  code (grp x r g k) (Ideal.exp2 (Ideal.ofBits .f32 0x00000000#32 - ex x r g))

/-- The dequantised values. -/
def F1 (y : S34816x4608.Idx) : EReal := codeAt x (y 0) (gOf (y 1)) (kOf (y 1)) * Ideal.exp2 (ex x (y 0) (gOf (y 1)))
/-- The codes. -/
def F2 (y : S34816x4608.Idx) : EReal := codeAt x (y 0) (gOf (y 1)) (kOf (y 1))
/-- The scales. -/
def F3 (y : S34816x36.Idx) : EReal := Ideal.exp2 (ex x (y 0) (y 1))

/-- The constants named `root`, `cube` and `ln2`. -/
theorem root_val : (Named.named κ "root" 0x3F4C422A#32 : Ideal .f32) = ((root : ℝ) : EReal) := rfl
theorem cube_val : (Named.named κ "cube" 0x3D372713#32 : Ideal .f32) = ((cube : ℝ) : EReal) := rfl
theorem ln2_val : (Named.named κ "ln2" 0x3F317218#32 : Ideal .f32) = ((Real.log 2 : ℝ) : EReal) := rfl

/-- The GELU payload at an index. -/
theorem pay5_apply (r : Fin 34816) (g : Fin 36) (k : Fin 128) : k0_pay5 x (ix3 r g k) = grp x r g k := by
  pointwise [k0_pay5]
  rw [root_val, cube_val, grp, geluR, Ideal.ofBits_one_f32]

/-- The greatest magnitudes of the groups of a three-axis array. -/
def red {F : FTy → Type} [FloatOps F] (v : FVec F S34816x36x128 .f32) : FVec F S34816x36 .f32 :=
  multiReduction .maximumf [2] S34816x36 (absf v) 0xFF800000#32 reduces_S34816x36x128_S34816x36 (.inl rfl) rfl

/-- The exponents of an array of group maxima. -/
def exps {F : FTy → Type} [FloatOps F] [Named F] (a : FVec F S34816x36 .f32) : FVec F S34816x36x1 .f32 :=
  have v19 : FVec F S34816x36x1 .f32 := shapeCast S34816x36x1 a shapeCasts_S34816x36_S34816x36x1
  select (cmpf .oeq v19 (broadcast S34816x36x1 (Scalar.ofBits .f32 0x00000000#32)))
    (broadcast S34816x36x1 (Scalar.ofBits .f32 0x00000000#32))
    (maximumf (addf (floor (divf (log (mulf v19 (broadcast S34816x36x1 (Scalar.ofBits .f32 0x3B124925#32))))
      (broadcast S34816x36x1 (Named.named κ "ln2" 0x3F317218#32)))) (broadcast S34816x36x1 (Scalar.ofBits .f32 0x3F800000#32)))
      (broadcast S34816x36x1 (Scalar.ofBits .f32 0xC2FC0000#32)))

/-- The scaled values of a three-axis array, clipped below. -/
def scaled {F : FTy → Type} [FloatOps F] (v : FVec F S34816x36x128 .f32) (e : FVec F S34816x36x1 .f32) : FVec F S34816x36x128 .f32 :=
  have v37 : FVec F S34816x36x1 .f32 := exp2 (subf (broadcast S34816x36x1 (Scalar.ofBits .f32 0x00000000#32)) e)
  have v39 : FVec F S34816x36x1 .f32 := extf .f32 (truncf .bf16 v37 bitsLt_bf16_f32) bitsLt_bf16_f32
  maximumf (broadcast S34816x36x128 (Scalar.ofBits .f32 0xC3E00000#32))
    (mulf v (broadcastTo S34816x36x128 v39 broadcasts_S34816x36x1_S34816x36x128))

/-- The exponent payload by its two stages. -/
theorem pay6_eq : k0_pay6 x = exps (red (k0_pay5 x)) := rfl

/-- The scaled payload by its parts. -/
theorem pay8_eq : k0_pay8 x = scaled (k0_pay5 x) (k0_pay6 x) := rfl

/-- A greatest magnitude at an index. -/
theorem red_apply (v : FVec Ideal S34816x36x128 .f32) (r : Fin 34816) (g : Fin 36) :
    red v (ix2 r g) = amax fun k => v (ix3 r g k) := by
  pointwise [red]
  simp only [bot_val, Ideal.absf_def]; rfl

/-- An exponent at an index. -/
theorem exps_apply (a : FVec Ideal S34816x36 .f32) (r : Fin 34816) (g : Fin 36) :
    exps a (ix3 r g (0 : Fin 1)) = expR (a (ix2 r g)) := by
  pointwise [exps]
  rw [ln2_val, expR, Ideal.ofBits_one_f32, Ideal.ofBits_zero_f32]
  simp only [Ideal.cmp, Scalar.select]
  by_cases h : a (ix2 r g) = 0 <;> simp [h]

/-- A scaled value at an index. -/
theorem scaled_apply (v : FVec Ideal S34816x36x128 .f32) (e : FVec Ideal S34816x36x1 .f32) (r : Fin 34816) (g : Fin 36) (k : Fin 128) :
    scaled v e (ix3 r g k) = max (Ideal.ofBits .f32 0xC3E00000#32)
      (v (ix3 r g k) * Ideal.exp2 (Ideal.ofBits .f32 0x00000000#32 - e (ix3 r g (0 : Fin 1)))) := by
  pointwise [scaled]
  rfl

/-- The exponent payload at an index. -/
theorem pay6_apply (r : Fin 34816) (g : Fin 36) : k0_pay6 x (ix3 r g (0 : Fin 1)) = ex x r g := by
  rw [pay6_eq, exps_apply, red_apply, ex]
  simp only [pay5_apply]

/-- A power of two at an index. -/
theorem exp2_apply (e : FVec Ideal S34816x36x1 .f32) (i : S34816x36x1.Idx) : exp2 e i = Ideal.exp2 (e i) := rfl

/-- The scale payload by its part. -/
theorem pay7_eq : k0_pay7 x = exp2 (k0_pay6 x) := rfl

/-- The scale payload at an index. -/
theorem pay7_apply (r : Fin 34816) (g : Fin 36) : k0_pay7 x (ix3 r g (0 : Fin 1)) = Ideal.exp2 (ex x r g) := by
  rw [pay7_eq, exp2_apply, pay6_apply]

/-- The scaled payload at an index. -/
theorem pay8_apply (r : Fin 34816) (g : Fin 36) (k : Fin 128) : k0_pay8 x (ix3 r g k) = max (Ideal.ofBits .f32 0xC3E00000#32)
    (grp x r g k * Ideal.exp2 (Ideal.ofBits .f32 0x00000000#32 - ex x r g)) := by
  rw [pay8_eq, scaled_apply, pay5_apply, pay6_apply]

/-- The dequantised payload at an index. -/
theorem pay2_apply (a : FVec Ideal S34816x36x1 .f32) (b : Ideal .f32) (v : FVec Ideal S34816x36x128 .f32) (r : Fin 34816) (c : Fin 4608) :
    k0_pay2 a b v (ix2 r c) = min b (v (ix3 r (gOf c) (kOf c))) * a (ix3 r (gOf c) (0 : Fin 1)) := by
  pointwise [k0_pay2, k0_pay1]
  rfl

/-- The code payload at an index. -/
theorem pay3_apply (b : Ideal .f32) (v : FVec Ideal S34816x36x128 .f32) (r : Fin 34816) (c : Fin 4608) :
    k0_pay3 b v (ix2 r c) = min b (v (ix3 r (gOf c) (kOf c))) := by
  pointwise [k0_pay3, k0_pay1]
  rfl

/-- The payload of scales at an index. -/
theorem pay4_apply (a : FVec Ideal S34816x36x1 .f32) (r : Fin 34816) (g : Fin 36) : k0_pay4 a (ix2 r g) = a (ix3 r g (0 : Fin 1)) := by
  pointwise [k0_pay4]

/-- The zero offsets. -/
theorem hz : (![0, 0] : Fin 2 → Nat) = fun _ => 0 := funext fun a => by fin_cases a <;> rfl

/-- The dequantised values the body leaves. -/
theorem out1_apply (y : S34816x4608.Idx) : out0_1 x y = F1 x y := by
  obtain ⟨r, c, rfl⟩ : ∃ (r : Fin 34816) (c : Fin 4608), y = ix2 r c := ⟨y 0, y 1, eq_ix2 y⟩
  unfold out0_1 k0_pay9 k0_pay10
  rw [View.canon_unit_zero hz, View.ld_unit_zero hz, pay2_apply, pay7_apply, pay8_apply]
  rfl

/-- The codes the body leaves. -/
theorem out2_apply (y : S34816x4608.Idx) : out0_2 x y = F2 x y := by
  obtain ⟨r, c, rfl⟩ : ∃ (r : Fin 34816) (c : Fin 4608), y = ix2 r c := ⟨y 0, y 1, eq_ix2 y⟩
  unfold out0_2 k0_pay10
  rw [View.canon_unit_zero hz, View.ld_unit_zero hz, pay3_apply, pay8_apply]
  rfl

/-- The scales the body leaves. -/
theorem out3_apply (y : S34816x36.Idx) : out0_3 x y = F3 x y := by
  obtain ⟨r, g, rfl⟩ : ∃ (r : Fin 34816) (g : Fin 36), y = ix2 r g := ⟨y 0, y 1, eq_ix2 y⟩
  unfold out0_3 k0_pay9
  rw [View.canon_unit_zero hz, View.ld_unit_zero hz, pay4_apply, pay7_apply]
  rfl

end Cert.Quantise.Reference

end
-- ==== Proof.ReferenceRun.lean ====
/- Hand-written, untrusted. THE REFERENCE'S ARRAYS after its run: one point whose blocks are the whole arrays, so each ends at
   its function of the reshaped argument. -/
module

public import proofs.«01_k».proof.Proof.Reference
public import proofs.«01_k».proof.Proof.Gen.ReferenceIdeal.Value
public import Idealize.ShloMosaic.Lib.Claim
public import Idealize.ShloMosaic.Lib.Pipeline.ValueKit

@[expose] public section

noncomputable section

namespace Cert.Quantise.ReferenceRun

open Idealize.ShloMosaic Idealize.ShloMosaic.TcCoe Idealize.SL.Sem Cert.ReferenceIdeal Cert.ReferenceIdeal.Gen Cert.Quantise
open Cert.Quantise.Reference
open Idealize.ShloMosaic.Pipeline (Dat)

variable (m : (ℓ : Loc nD τ sig) → Buf (Elt Ideal) ℓ) (ρ : Dev nD → PrngReg)

/-- The argument with its leading axes merged: the array the reference reads. -/
def X (a : Vec Ideal S17x2048x4608 .bf16) : Vec Ideal S34816x4608 .bf16 := shapeCast S34816x4608 a shapeCasts_S17x2048x4608_S34816x4608

/-- The region finds the reshaped argument. -/
theorem V_v0 (c : Dev nD) : V m c main_v0 = X (m ((c : Thread nD τ).loc main_arg0)) := by
  entry_read
  rfl

/-- Every window's one block is at index zero. -/
theorem idx : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The input's one block is the array. -/
theorem iblk_eq (c : Dev nD) (t : Fin cfg0.N) : iblk m c 0 t = X (m ((c : Thread nD τ).loc main_arg0)) := by
  have e := (idx t).1
  rw [← V_v0]
  refine funext fun (j : S34816x4608.Idx) => ?_
  blk_ext [iblk, e.1, e.2]

/-- The dequantised array after the run. -/
theorem final1 (c : Dev nD) : (dats m 0 c).arrAt 1 cfg0.N = F1 (X (m ((c : Thread nD τ).loc main_arg0))) := by
  refine (dats m 0 c).arrAt_eq_of_covers 1 _ (by decide +kernel) fun t hf y => ?_
  have e := (idx t).2.1
  blk_simp
  rw [after0_1, out1_apply, iblk_eq]
  refine congrArg _ (funext fun a => Fin.ext ?_)
  match a with
  | ⟨0, _⟩ => blk_simp [e.1]; try omega
  | ⟨1, _⟩ => blk_simp [e.2]; try omega

/-- The codes after the run. -/
theorem final2 (c : Dev nD) : (dats m 0 c).arrAt 2 cfg0.N = F2 (X (m ((c : Thread nD τ).loc main_arg0))) := by
  refine (dats m 0 c).arrAt_eq_of_covers 2 _ (by decide +kernel) fun t hf y => ?_
  have e := (idx t).2.2.1
  blk_simp
  rw [after0_2, out2_apply, iblk_eq]
  refine congrArg _ (funext fun a => Fin.ext ?_)
  match a with
  | ⟨0, _⟩ => blk_simp [e.1]; try omega
  | ⟨1, _⟩ => blk_simp [e.2]; try omega

/-- The scales after the run. -/
theorem final3 (c : Dev nD) : (dats m 0 c).arrAt 3 cfg0.N = F3 (X (m ((c : Thread nD τ).loc main_arg0))) := by
  refine (dats m 0 c).arrAt_eq_of_covers 3 _ (by decide +kernel) fun t hf y => ?_
  have e := (idx t).2.2.2
  blk_simp
  rw [after0_3, out3_apply, iblk_eq]
  refine congrArg _ (funext fun a => Fin.ext ?_)
  match a with
  | ⟨0, _⟩ => blk_simp [e.1]; try omega
  | ⟨1, _⟩ => blk_simp [e.2]; try omega

end Cert.Quantise.ReferenceRun

end
-- ==== Proof.Equation.lean ====
/- Hand-written, untrusted. THE EQUATION: on an array of finite bfloat16 values the kernel's functions of the array and the
   reference's are the same. -/
module

public import proofs.«01_k».proof.Defs
public import proofs.«01_k».proof.Proof.Reference
public import proofs.«01_k».proof.Proof.Gen.Pre_finite

@[expose] public section

noncomputable section

namespace Cert.Quantise

open Idealize.ShloMosaic

/-- Every element is a real number below `2 ^ 128` in magnitude. -/
def Bounded {s : Shape} (x : s.Idx → EReal) : Prop := ∀ i, ∃ r : ℝ, x i = (r : EReal) ∧ |r| < (2 : ℝ) ^ (128 : ℤ)

/-- A value whose magnitude is below `2 ^ 128` is such a real. -/
theorem real_of_abs_lt (v : EReal) (h : max v (-v) < (((2 : ℝ) ^ (128 : ℤ) : ℝ) : EReal)) :
    ∃ r : ℝ, v = (r : EReal) ∧ |r| < (2 : ℝ) ^ (128 : ℤ) := by
  induction v with
  | bot => simp at h
  | top => simp at h
  | coe r =>
    refine ⟨r, rfl, ?_⟩
    rw [← EReal.coe_neg] at h
    rw [abs_lt]
    have h1 := EReal.coe_lt_coe_iff.1 (lt_of_le_of_lt (le_max_left _ _) h)
    have h2 := EReal.coe_lt_coe_iff.1 (lt_of_le_of_lt (le_max_right _ _) h)
    constructor <;> linarith

/-- The precondition says the argument is bounded. -/
theorem bounded_of_pre (x : Vec Ideal Cert.Pre_finite.S17x2048x4608 .bf16)
    (h : Cert.Pre_finite.fn (F := Ideal) x = fun _ => 1#1) : Bounded x := by
  intro i
  have hi := congrFun h i
  obtain ⟨a, b, c, rfl⟩ : ∃ (a : Fin 17) (b : Fin 2048) (c : Fin 4608), i = ix3 a b c := ⟨i 0, i 1, i 2, eq_ix3 i⟩
  pointwise [Cert.Pre_finite.fn] at hi
  refine real_of_abs_lt _ (lt_of_le_of_lt ?_ bf16_max_lt)
  by_contra hn
  rw [Ideal.absf_def, decide_eq_false hn] at hi
  exact absurd hi (by decide)

/-- A fold of the maximum over real numbers from minus infinity is a real number, below any bound of all of them. -/
theorem amax_real (v : Fin 128 → ℝ) (B : ℝ) (h : ∀ k, |v k| < B) :
    ∃ a : ℝ, amax (fun k => ((v k : ℝ) : EReal)) = (a : EReal) ∧ 0 ≤ a ∧ a < B := by
  have e : amax (fun k => ((v k : ℝ) : EReal)) = (Finset.univ : Finset (Fin 128)).sup fun k => ((|v k| : ℝ) : EReal) := by
    unfold amax Finset.sup
    congr 1
  obtain ⟨k, -, hk⟩ := Finset.exists_mem_eq_sup (Finset.univ : Finset (Fin 128)) ⟨0, Finset.mem_univ _⟩ (fun k => ((|v k| : ℝ) : EReal))
  exact ⟨|v k|, e.trans hk, abs_nonneg _, h k⟩

/-- On a bounded array a group of the reference is the kernel's, and its exponent gives the same scale and inverse scale. -/
theorem group_eq (x : (⟨2, ![34816, 4608]⟩ : Shape).Idx → EReal) (hx : Bounded x) (r : Fin 34816) (g : Fin 36) :
    Reference.grp x r g = Pieces.grp x r g
      ∧ scaleK (Pieces.ex x r g) = Ideal.exp2 (Reference.ex x r g)
      ∧ invK (Pieces.ex x r g) = Ideal.exp2 (Ideal.ofBits .f32 0x00000000#32 - Reference.ex x r g) := by
  choose f hf hb using hx
  have hK : Pieces.grp x r g = fun k => ((gelu (f (ix2 r (⟨g.val * 128 + k.val, by have := g.isLt; have := k.isLt; omega⟩ : Fin 4608))) : ℝ) : EReal) := by
    funext k; unfold Pieces.grp; rw [hf, geluK_coe]
  have hR : Reference.grp x r g = Pieces.grp x r g := by
    rw [hK]; funext k; unfold Reference.grp; rw [hf, geluR_coe]
  obtain ⟨a, ha, h0, h1⟩ := amax_real _ ((2 : ℝ) ^ (128 : ℤ)) fun k : Fin 128 =>
    lt_of_le_of_lt (abs_gelu_le _) (hb (ix2 r (⟨g.val * 128 + k.val, by have := g.isLt; have := k.isLt; omega⟩ : Fin 4608)))
  refine ⟨hR, ?_⟩
  unfold Pieces.ex Reference.ex
  rw [hR, hK, ha]
  exact scales a h0 h1

/-- The codes agree. -/
theorem codes_eq (x : (⟨2, ![34816, 4608]⟩ : Shape).Idx → EReal) (hx : Bounded x) : Reference.F2 x = Pieces.E2 x := by
  funext (y : (⟨2, ![34816, 4608]⟩ : Shape).Idx)
  obtain ⟨hg, -, hi⟩ := group_eq x hx (y 0) (Pieces.gOf (y 1))
  unfold Reference.F2 Pieces.E2 Reference.codeAt Pieces.codeAt
  rw [hg, hi]

/-- The dequantised values agree. -/
theorem xhat_eq (x : (⟨2, ![34816, 4608]⟩ : Shape).Idx → EReal) (hx : Bounded x) : Reference.F1 x = Pieces.E1 x := by
  funext (y : (⟨2, ![34816, 4608]⟩ : Shape).Idx)
  obtain ⟨hg, hs, hi⟩ := group_eq x hx (y 0) (Pieces.gOf (y 1))
  unfold Reference.F1 Pieces.E1 Reference.codeAt Pieces.codeAt
  rw [hg, hi, hs]

/-- The scales agree. -/
theorem scales_eq (x : (⟨2, ![34816, 4608]⟩ : Shape).Idx → EReal) (hx : Bounded x) : Reference.F3 x = Pieces.E3 x := by
  funext (y : (⟨2, ![34816, 36]⟩ : Shape).Idx)
  unfold Reference.F3 Pieces.E3
  rw [(group_eq x hx (y 0) (y 1)).2.1]

end Cert.Quantise

end
-- ==== Proof.lean ====
/- Hand-written, untrusted. THE CLAIMS of proofs.«01_k».proof.Defs put together: the frames are the generated ones, the named
   constants round to the words the kernel has, and the value claim joins the two runs (KernelRun.lean, ReferenceRun.lean)
   by the equation of the functions they end at (Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.KernelRun
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Quantise

/-- Merging two axes keeps the values bounded. -/
theorem bounded_X (a : Vec Ideal Cert.KernelIdeal.S17x2048x4608 .bf16) (h : Bounded a) : Bounded (KernelRun.X a) := fun i =>
  h _

/-- The kernel's run and the reference's, from memories that agree on a bounded argument, end at the same three arrays. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hb : ∀ c : Dev Cert.KernelIdeal.nD, Bounded (KernelRun.X (m ((c : Thread Cert.KernelIdeal.nD Cert.KernelIdeal.τ).loc Cert.KernelIdeal.main_arg0))) :=
    fun c => bounded_X _ (bounded_of_pre _ (hpre c))
  refine ⟨fun c => Pieces.E1 (KernelRun.X (m ((c : Thread Cert.KernelIdeal.nD Cert.KernelIdeal.τ).loc Cert.KernelIdeal.main_arg0))),
    fun c => Pieces.E2 (KernelRun.X (m ((c : Thread Cert.KernelIdeal.nD Cert.KernelIdeal.τ).loc Cert.KernelIdeal.main_arg0))),
    fun c => Pieces.E3 (KernelRun.X (m ((c : Thread Cert.KernelIdeal.nD Cert.KernelIdeal.τ).loc Cert.KernelIdeal.main_arg0))), ?_, ?_⟩
  · refine (θ_run _ _ _).mono (fun r h c => ?_) (Cert.KernelIdeal.Value.run_blocks m g)
    obtain ⟨h1, h2, h3, h0⟩ := h c
    exact ⟨h1.trans (KernelRun.final1 m c), h2.trans (KernelRun.final2 m c), h3.trans (KernelRun.final3 m c), h0⟩
  · refine (θ_run _ _ _).mono (fun r h c => ?_) (Cert.ReferenceIdeal.Value.run_blocks m' g')
    obtain ⟨h1, h2, h3, h0⟩ := h c
    have e : ReferenceRun.X (m' ((c : Thread Cert.ReferenceIdeal.nD Cert.ReferenceIdeal.τ).loc Cert.ReferenceIdeal.main_arg0))
        = KernelRun.X (m ((c : Thread Cert.KernelIdeal.nD Cert.KernelIdeal.τ).loc Cert.KernelIdeal.main_arg0)) := congrArg ReferenceRun.X (hagree c)
    refine ⟨h1.trans ((ReferenceRun.final1 m' c).trans ?_), h2.trans ((ReferenceRun.final2 m' c).trans ?_),
      h3.trans ((ReferenceRun.final3 m' c).trans ?_), h0⟩
    · rw [e]; exact xhat_eq _ (hb c)
    · rw [e]; exact codes_eq _ (hb c)
    · rw [e]; exact scales_eq _ (hb c)

/-- The named constants round to the words the kernel has. -/
theorem preserves : preserves_Kernel_KernelIdeal :=
  ⟨IdealRules.named_const.statement Cert.KernelIdeal.κ "c1" .f32 0x3D122279#32 _ rfl,
    IdealRules.named_const.statement Cert.KernelIdeal.κ "c0" .f32 0x3F4C422A#32 _ rfl⟩

/-- The certificate's claim. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
